-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_area_above_minus_inf [hPre_area_above_minus_inf : Cert.Pre_area_above_minus_inf.Facts] (m : (ℓ : Loc Cert.KernelIdeal.nD Cert.KernelIdeal.τ Cert.KernelIdeal.sig) → Buf (Elt Ideal) ℓ) : Prop :=
  ∀ c : Dev Cert.KernelIdeal.nD,
    (Cert.Pre_area_above_minus_inf.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_area_above_minus_inf [hPre_area_above_minus_inf : Cert.Pre_area_above_minus_inf.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_area_above_minus_inf.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_area_above_minus_inf [hKernelIdeal : Cert.KernelIdeal.Facts] [hPre_area_above_minus_inf : Cert.Pre_area_above_minus_inf.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_area_above_minus_inf m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_area_above_minus_inf [hReferenceIdeal : Cert.ReferenceIdeal.Facts] [hPre_area_above_minus_inf : Cert.Pre_area_above_minus_inf.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_area_above_minus_inf m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_area_above_minus_inf [hKernelIdeal : Cert.KernelIdeal.Facts] [hReferenceIdeal : Cert.ReferenceIdeal.Facts] [hPre_area_above_minus_inf : Cert.Pre_area_above_minus_inf.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_area_above_minus_inf m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_v95) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_area_above_minus_inf : Cert.Pre_area_above_minus_inf.Facts),
    quiescent_Kernel (hKernel := hKernel)
    ∧ quiescent_KernelIdeal (hKernelIdeal := hKernelIdeal)
    ∧ quiescent_KernelIdeal_pre_area_above_minus_inf (hKernelIdeal := hKernelIdeal) (hPre_area_above_minus_inf := hPre_area_above_minus_inf)
    ∧ quiescent_ReferenceIdeal (hReferenceIdeal := hReferenceIdeal)
    ∧ quiescent_ReferenceIdeal_pre_area_above_minus_inf (hReferenceIdeal := hReferenceIdeal) (hPre_area_above_minus_inf := hPre_area_above_minus_inf)
    ∧ preserves_Kernel_KernelIdeal
    ∧ algebraic_KernelIdeal_ReferenceIdeal_pre_area_above_minus_inf (hKernelIdeal := hKernelIdeal) (hReferenceIdeal := hReferenceIdeal) (hPre_area_above_minus_inf := hPre_area_above_minus_inf)
-- ==== Pre_area_above_minus_inf.lean ====
abbrev S5000x4 : Shape := ⟨2, ![5000, 4]⟩
abbrev S5000x1 : Shape := ⟨2, ![5000, 1]⟩
abbrev S_ : Shape := ⟨0, ![]⟩

class Facts : Prop where
  slices_S5000x4_S5000x1_0_0 : S5000x4.Slices ![0, 0] S5000x1
  slices_S5000x4_S5000x1_0_1 : S5000x4.Slices ![0, 1] S5000x1
  slices_S5000x4_S5000x1_0_2 : S5000x4.Slices ![0, 2] S5000x1
  slices_S5000x4_S5000x1_0_3 : S5000x4.Slices ![0, 3] S5000x1
  bcast_S_S5000x1 : S_.BroadcastsInDim S5000x1 (![] : Fin 0 → Fin S5000x1.rank)

variable [Facts]

def fn {F : FTy → Type} [FloatOps F] (main_arg0 : FVec F S5000x4 .f32) : IVec S5000x1 1 :=
  let main_v0 : FVec F S5000x1 .f32 := (extractStridedSlice S5000x1 ![0, 0] · slices_S5000x4_S5000x1_0_0) main_arg0
  let main_v1 : FVec F S5000x1 .f32 := (extractStridedSlice S5000x1 ![0, 1] · slices_S5000x4_S5000x1_0_1) main_arg0
  let main_v2 : FVec F S5000x1 .f32 := (extractStridedSlice S5000x1 ![0, 2] · slices_S5000x4_S5000x1_0_2) main_arg0
  let main_v3 : FVec F S5000x1 .f32 := (extractStridedSlice S5000x1 ![0, 3] · slices_S5000x4_S5000x1_0_3) main_arg0
  let main_v4 : FVec F S5000x1 .f32 := subf main_v2 main_v0
  let main_v5 : FVec F S5000x1 .f32 := subf main_v3 main_v1
  let main_v6 : FVec F S5000x1 .f32 := mulf main_v4 main_v5
  let main_cst : FVec F S_ .f32 := constant S_ .f32 0xFF800000#32
  let main_v7 : FVec F S5000x1 .f32 := broadcastInDim S5000x1 ![] bcast_S_S5000x1 main_cst
  let main_v8 : IVec S5000x1 1 := cmpf .ogt main_v6 main_v7
  main_v8
-- ==== Kernel.lean ====
abbrev S5000x4 : Shape := ⟨2, ![5000, 4]⟩
abbrev S_ : Shape := ⟨0, ![]⟩
abbrev S5120x4 : Shape := ⟨2, ![5120, 4]⟩
abbrev S4x5120 : Shape := ⟨2, ![4, 5120]⟩
abbrev S5120x1 : Shape := ⟨2, ![5120, 1]⟩
abbrev S512x4 : Shape := ⟨2, ![512, 4]⟩
abbrev S512x1 : Shape := ⟨2, ![512, 1]⟩
abbrev S1x5120 : Shape := ⟨2, ![1, 5120]⟩
abbrev S512x5120 : Shape := ⟨2, ![512, 5120]⟩
abbrev S512 : Shape := ⟨1, ![512]⟩
abbrev S5000x1 : Shape := ⟨2, ![5000, 1]⟩
abbrev S5000 : Shape := ⟨1, ![5000]⟩

abbrev nBuf : Space → Nat
  | .hbm => 13
  | .vmem => 7
  | .smem => 0
  | _ => 0

abbrev bufTy : (tb : Table) → Fin (tcTables nBuf tb) → BufTy
  | .hbm, ⟨0, _⟩ => ⟨S5000x4, .f32⟩
  | .hbm, ⟨1, _⟩ => ⟨S_, .i32⟩
  | .hbm, ⟨2, _⟩ => ⟨S_, .f32⟩
  | .hbm, ⟨3, _⟩ => ⟨S5120x4, .f32⟩
  | .hbm, ⟨4, _⟩ => ⟨S4x5120, .f32⟩
  | .hbm, ⟨5, _⟩ => ⟨S5120x4, .f32⟩
  | .hbm, ⟨6, _⟩ => ⟨S5120x1, .f32⟩
  | .hbm, ⟨7, _⟩ => ⟨S5000x4, .f32⟩
  | .hbm, ⟨8, _⟩ => ⟨S5000x1, .f32⟩
  | .hbm, ⟨9, _⟩ => ⟨S5000, .f32⟩
  | .hbm, ⟨10, _⟩ => ⟨S_, .f32⟩
  | .hbm, ⟨11, _⟩ => ⟨S5000, .f32⟩
  | .hbm, ⟨12, _⟩ => ⟨S5000, .i1⟩
  | .local _ .vmem, ⟨0, _⟩ => ⟨S512x4, .f32⟩
  | .local _ .vmem, ⟨1, _⟩ => ⟨S512x4, .f32⟩
  | .local _ .vmem, ⟨2, _⟩ => ⟨S4x5120, .f32⟩
  | .local _ .vmem, ⟨3, _⟩ => ⟨S512x4, .f32⟩
  | .local _ .vmem, ⟨4, _⟩ => ⟨S512x4, .f32⟩
  | .local _ .vmem, ⟨5, _⟩ => ⟨S512x1, .f32⟩
  | .local _ .vmem, ⟨6, _⟩ => ⟨S512x1, .f32⟩
  | _, _ => ⟨S5000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x5120 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S5000x4 : Shape := ⟨2, ![5000, 4]⟩
abbrev S5000x1 : Shape := ⟨2, ![5000, 1]⟩
abbrev S5000 : Shape := ⟨1, ![5000]⟩
abbrev S_ : Shape := ⟨0, ![]⟩
abbrev S1x5000 : Shape := ⟨2, ![1, 5000]⟩
abbrev S5000x5000 : Shape := ⟨2, ![5000, 5000]⟩

abbrev nBuf : Space → Nat
  | .hbm => 120
  | .vmem => 0
  | .smem => 0
  | _ => 0

abbrev bufTy : (tb : Table) → Fin (tcTables nBuf tb) → BufTy
  | .hbm, ⟨0, _⟩ => ⟨S5000x4, .f32⟩
  | .hbm, ⟨1, _⟩ => ⟨S5000x1, .f32⟩
  | .hbm, ⟨2, _⟩ => ⟨S5000, .f32⟩
  | .hbm, ⟨3, _⟩ => ⟨S5000x1, .f32⟩
  | .hbm, ⟨4, _⟩ => ⟨S5000, .f32⟩
  | .hbm, ⟨5, _⟩ => ⟨S5000x1, .f32⟩
  | .hbm, ⟨6, _⟩ => ⟨S5000, .f32⟩
  | .hbm, ⟨7, _⟩ => ⟨S5000x1, .f32⟩
  | .hbm, ⟨8, _⟩ => ⟨S5000, .f32⟩
  | .hbm, ⟨9, _⟩ => ⟨S5000, .f32⟩
  | .hbm, ⟨10, _⟩ => ⟨S5000, .f32⟩
  | .hbm, ⟨11, _⟩ => ⟨S5000, .f32⟩
  | .hbm, ⟨12, _⟩ => ⟨S5000, .f32⟩
  | .hbm, ⟨13, _⟩ => ⟨S5000, .i32⟩
  | .hbm, ⟨14, _⟩ => ⟨S5000, .f32⟩
  | .hbm, ⟨15, _⟩ => ⟨S5000, .i32⟩
  | .hbm, ⟨16, _⟩ => ⟨S_, .i32⟩
  | .hbm, ⟨17, _⟩ => ⟨S5000, .i32⟩
  | .hbm, ⟨18, _⟩ => ⟨S5000, .i1⟩
  | .hbm, ⟨19, _⟩ => ⟨S_, .i32⟩
  | .hbm, ⟨20, _⟩ => ⟨S5000, .i32⟩
  | .hbm, ⟨21, _⟩ => ⟨S5000, .i32⟩
  | .hbm, ⟨22, _⟩ => ⟨S5000, .i32⟩
  | .hbm, ⟨23, _⟩ => ⟨S5000x1, .i32⟩
  | .hbm, ⟨24, _⟩ => ⟨S5000, .f32⟩
  | .hbm, ⟨25, _⟩ => ⟨S_, .i32⟩
  | .hbm, ⟨26, _⟩ => ⟨S5000, .i32⟩
  | .hbm, ⟨27, _⟩ => ⟨S5000, .i1⟩
  | .hbm, ⟨28, _⟩ => ⟨S_, .i32⟩
  | .hbm, ⟨29, _⟩ => ⟨S5000, .i32⟩
  | .hbm, ⟨30, _⟩ => ⟨S5000, .i32⟩
  | .hbm, ⟨31, _⟩ => ⟨S5000, .i32⟩
  | .hbm, ⟨32, _⟩ => ⟨S5000x1, .i32⟩
  | .hbm, ⟨33, _⟩ => ⟨S5000, .f32⟩
  | .hbm, ⟨34, _⟩ => ⟨S_, .i32⟩
  | .hbm, ⟨35, _⟩ => ⟨S5000, .i32⟩
  | .hbm, ⟨36, _⟩ => ⟨S5000, .i1⟩
  | .hbm, ⟨37, _⟩ => ⟨S_, .i32⟩
  | .hbm, ⟨38, _⟩ => ⟨S5000, .i32⟩
  | .hbm, ⟨39, _⟩ => ⟨S5000, .i32⟩
  | .hbm, ⟨40, _⟩ => ⟨S5000, .i32⟩
  | .hbm, ⟨41, _⟩ => ⟨S5000x1, .i32⟩
  | .hbm, ⟨42, _⟩ => ⟨S5000, .f32⟩
  | .hbm, ⟨43, _⟩ => ⟨S_, .i32⟩
  | .hbm, ⟨44, _⟩ => ⟨S5000, .i32⟩
  | .hbm, ⟨45, _⟩ => ⟨S5000, .i1⟩
  | .hbm, ⟨46, _⟩ => ⟨S_, .i32⟩
  | .hbm, ⟨47, _⟩ => ⟨S5000, .i32⟩
  | .hbm, ⟨48, _⟩ => ⟨S5000, .i32⟩
  | .hbm, ⟨49, _⟩ => ⟨S5000, .i32⟩
  | .hbm, ⟨50, _⟩ => ⟨S5000x1, .i32⟩
  | .hbm, ⟨51, _⟩ => ⟨S5000, .f32⟩
  | .hbm, ⟨52, _⟩ => ⟨S_, .i32⟩
  | .hbm, ⟨53, _⟩ => ⟨S5000, .i32⟩
  | .hbm, ⟨54, _⟩ => ⟨S5000, .i1⟩
  | .hbm, ⟨55, _⟩ => ⟨S_, .i32⟩
  | .hbm, ⟨56, _⟩ => ⟨S5000, .i32⟩
  | .hbm, ⟨57, _⟩ => ⟨S5000, .i32⟩
  | .hbm, ⟨58, _⟩ => ⟨S5000, .i32⟩
  | .hbm, ⟨59, _⟩ => ⟨S5000x1, .i32⟩
  | .hbm, ⟨60, _⟩ => ⟨S5000, .f32⟩
  | .hbm, ⟨61, _⟩ => ⟨S1x5000, .f32⟩
  | .hbm, ⟨62, _⟩ => ⟨S5000x1, .f32⟩
  | .hbm, ⟨63, _⟩ => ⟨S5000x5000, .f32⟩
  | .hbm, ⟨64, _⟩ => ⟨S5000x5000, .f32⟩
  | .hbm, ⟨65, _⟩ => ⟨S5000x5000, .i1⟩
  | .hbm, ⟨66, _⟩ => ⟨S1x5000, .f32⟩
  | .hbm, ⟨67, _⟩ => ⟨S5000x1, .f32⟩
  | .hbm, ⟨68, _⟩ => ⟨S5000x5000, .f32⟩
  | .hbm, ⟨69, _⟩ => ⟨S5000x5000, .f32⟩
  | .hbm, ⟨70, _⟩ => ⟨S5000x5000, .i1⟩
  | .hbm, ⟨71, _⟩ => ⟨S5000x5000, .i1⟩
  | .hbm, ⟨72, _⟩ => ⟨S1x5000, .f32⟩
  | .hbm, ⟨73, _⟩ => ⟨S5000x1, .f32⟩
  | .hbm, ⟨74, _⟩ => ⟨S5000x5000, .f32⟩
  | .hbm, ⟨75, _⟩ => ⟨S5000x5000, .f32⟩
  | .hbm, ⟨76, _⟩ => ⟨S5000x5000, .i1⟩
  | .hbm, ⟨77, _⟩ => ⟨S5000x5000, .i1⟩
  | .hbm, ⟨78, _⟩ => ⟨S1x5000, .f32⟩
  | .hbm, ⟨79, _⟩ => ⟨S5000x1, .f32⟩
  | .hbm, ⟨80, _⟩ => ⟨S5000x5000, .f32⟩
  | .hbm, ⟨81, _⟩ => ⟨S5000x5000, .f32⟩
  | .hbm, ⟨82, _⟩ => ⟨S5000x5000, .i1⟩
  | .hbm, ⟨83, _⟩ => ⟨S5000x5000, .i1⟩
  | .hbm, ⟨84, _⟩ => ⟨S5000x5000, .i32⟩
  | .hbm, ⟨85, _⟩ => ⟨S5000x5000, .i32⟩
  | .hbm, ⟨86, _⟩ => ⟨S_, .i32⟩
  | .hbm, ⟨87, _⟩ => ⟨S5000x5000, .i32⟩
  | .hbm, ⟨88, _⟩ => ⟨S5000x5000, .i32⟩
  | .hbm, ⟨89, _⟩ => ⟨S5000x5000, .i1⟩
  | .hbm, ⟨90, _⟩ => ⟨S5000x5000, .i1⟩
  | .hbm, ⟨91, _⟩ => ⟨S5000x5000, .i1⟩
  | .hbm, ⟨92, _⟩ => ⟨S5000x5000, .f32⟩
  | .hbm, ⟨93, _⟩ => ⟨S1x5000, .f32⟩
  | .hbm, ⟨94, _⟩ => ⟨S5000x5000, .f32⟩
  | .hbm, ⟨95, _⟩ => ⟨S5000x5000, .f32⟩
  | .hbm, ⟨96, _⟩ => ⟨S_, .f32⟩
  | .hbm, ⟨97, _⟩ => ⟨S5000, .f32⟩
  | .hbm, ⟨98, _⟩ => ⟨S_, .f32⟩
  | .hbm, ⟨99, _⟩ => ⟨S5000, .f32⟩
  | .hbm, ⟨100, _⟩ => ⟨S5000, .f32⟩
  | .hbm, ⟨101, _⟩ => ⟨S_, .f32⟩
  | .hbm, ⟨102, _⟩ => ⟨S5000, .f32⟩
  | .hbm, ⟨103, _⟩ => ⟨S5000, .f32⟩
  | .hbm, ⟨104, _⟩ => ⟨S5000, .i1⟩
  | .hbm, ⟨105, _⟩ => ⟨S_, .i1⟩
  | .hbm, ⟨106, _⟩ => ⟨S5000, .i1⟩
  | .hbm, ⟨107, _⟩ => ⟨S_, .i32⟩
  | .hbm, ⟨108, _⟩ => ⟨S5000, .i32⟩
  | .hbm, ⟨109, _⟩ => ⟨S5000, .i1⟩
  | .hbm, ⟨110, _⟩ => ⟨S_, .i32⟩
  | .hbm, ⟨111, _⟩ => ⟨S5000, .i32⟩
  | .hbm, ⟨112, _⟩ => ⟨S5000, .i32⟩
  | .hbm, ⟨113, _⟩ => ⟨S5000, .i32⟩
  | .hbm, ⟨114, _⟩ => ⟨S5000x1, .i32⟩
  | .hbm, ⟨115, _⟩ => ⟨S5000, .i1⟩
  | .hbm, ⟨116, _⟩ => ⟨S5000x1, .i1⟩
  | .hbm, ⟨117, _⟩ => ⟨S5000x1, .f32⟩
  | .hbm, ⟨118, _⟩ => ⟨S5000x4, .f32⟩
  | .hbm, ⟨119, _⟩ => ⟨S5000x4, .f32⟩
  | _, _ => ⟨S5000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_call0_v0 : Ref sig .tc := ⟨.hbm, 13, rfl⟩
abbrev main_call0_v1_0 : Ref sig .tc := ⟨.hbm, 14, rfl⟩
abbrev main_v12 : Ref sig .tc := ⟨.hbm, 15, rfl⟩
abbrev main_c : Ref sig .tc := ⟨.hbm, 16, rfl⟩
abbrev main_v13 : Ref sig .tc := ⟨.hbm, 17, rfl⟩
abbrev main_v14 : Ref sig .tc := ⟨.hbm, 18, rfl⟩
abbrev main_c_0 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_c_1 : Ref sig .tc := ⟨.hbm, 25, rfl⟩
abbrev main_v20 : Ref sig .tc := ⟨.hbm, 26, rfl⟩
abbrev main_v21 : Ref sig .tc := ⟨.hbm, 27, rfl⟩
abbrev main_c_2 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_c_3 : Ref sig .tc := ⟨.hbm, 34, rfl⟩
abbrev main_v27 : Ref sig .tc := ⟨.hbm, 35, rfl⟩
abbrev main_v28 : Ref sig .tc := ⟨.hbm, 36, rfl⟩
abbrev main_c_4 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_c_5 : Ref sig .tc := ⟨.hbm, 43, rfl⟩
abbrev main_v34 : Ref sig .tc := ⟨.hbm, 44, rfl⟩
abbrev main_v35 : Ref sig .tc := ⟨.hbm, 45, rfl⟩
abbrev main_c_6 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_c_7 : Ref sig .tc := ⟨.hbm, 52, rfl⟩
abbrev main_v41 : Ref sig .tc := ⟨.hbm, 53, rfl⟩
abbrev main_v42 : Ref sig .tc := ⟨.hbm, 54, rfl⟩
abbrev main_c_8 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_c_9 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_cst : Ref sig .tc := ⟨.hbm, 96, rfl⟩
abbrev main_v82 : Ref sig .tc := ⟨.hbm, 97, rfl⟩
abbrev main_cst_10 : Ref sig .tc := ⟨.hbm, 98, rfl⟩
abbrev main_v83 : Ref sig .tc := ⟨.hbm, 99, rfl⟩
abbrev main_v84 : Ref sig .tc := ⟨.hbm, 100, rfl⟩
abbrev main_cst_11 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_c_12 : Ref sig .tc := ⟨.hbm, 105, rfl⟩
abbrev main_v88 : Ref sig .tc := ⟨.hbm, 106, rfl⟩
abbrev main_c_13 : Ref sig .tc := ⟨.hbm, 107, rfl⟩
abbrev main_v89 : Ref sig .tc := ⟨.hbm, 108, rfl⟩
abbrev main_v90 : Ref sig .tc := ⟨.hbm, 109, rfl⟩
abbrev main_c_14 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩

abbrev nD : Nat := 1
abbrev τ : Topo := Topo.v7x

variable {F : FTy → Type} [FloatOps F]
-- ==== Proof.Model.lean ====
/-
  The filter as arithmetic over the extended reals, with no program in sight.

  A table of boxes is a function `x : Fin n → Fin 4 → EReal` (columns x1, y1, x2, y2). `area x i` is a box's signed
  area and `Inside x i j` says that box `j` lies inside box `i`. A box is kept when the areas of the OTHER boxes inside
  it add up to at most a bound. The kernel adds the areas of ALL boxes inside, box `i` among them, over a table with
  rows of zeros below it, and subtracts the box's own area; the two ways agree for a box whose area is not minus
  infinity (`keptBit_padded`).
-/
module

public import Mathlib.Data.EReal.Operations
public import Mathlib.Algebra.BigOperators.Fin
public import Idealize.ShloMosaic.PureOps.Ideal.Laws

@[expose] public section

noncomputable section

namespace Cert.Filter

open Idealize.ShloMosaic

/-! ## The vocabulary -/

/-- The signed area `(x2 - x1) * (y2 - y1)` of box `i`. -/
def area {n : ℕ} (x : Fin n → Fin 4 → EReal) (i : Fin n) : EReal := (x i 2 - x i 0) * (x i 3 - x i 1)

/-- Box `j` lies inside box `i`: each corner of `j` is within the bounds of `i`. -/
def Inside {n p : ℕ} (x : Fin n → Fin 4 → EReal) (y : Fin p → Fin 4 → EReal) (i : Fin n) (j : Fin p) : Prop :=
  x i 0 ≤ y j 0 ∧ x i 1 ≤ y j 1 ∧ y j 2 ≤ x i 2 ∧ y j 3 ≤ x i 3

open Classical in
/-- The area that box `j` contributes to box `i`: its own area where it lies inside, else nothing. -/
def part {n p : ℕ} (x : Fin n → Fin 4 → EReal) (y : Fin p → Fin 4 → EReal) (i : Fin n) (j : Fin p) : EReal :=
  if Inside x y i j then area y j else 0

/-- The bound that the contained area is held against: `0.8 * (area + 1e-9)`, both constants as binary32 words. -/
def bound (a : EReal) : EReal := Ideal.ofBits .f32 0x3F4CCCCD#32 * (a + Ideal.ofBits .f32 0x3089705F#32)

/-- What the reference keeps: the other boxes inside box `i` have together at most the bound. -/
def Keep {n : ℕ} (x : Fin n → Fin 4 → EReal) (i : Fin n) : Prop :=
  ∑ j ∈ Finset.univ.erase i, part x x i j ≤ bound (area x i)

open Classical in
/-- The keep decision as one bit. -/
def keepBit {n : ℕ} (x : Fin n → Fin 4 → EReal) (i : Fin n) : BitVec 1 := BitVec.ofBool (decide (Keep x i))

open Classical in
/-- The kernel's decision as one bit, box `i` of `x` against all boxes of `y`: everything inside it, less its own area. -/
def keptBit {n p : ℕ} (x : Fin n → Fin 4 → EReal) (y : Fin p → Fin 4 → EReal) (i : Fin n) : BitVec 1 :=
  BitVec.ofBool (decide (∑ j, part x y i j - area x i ≤ bound (area x i)))

/-- The table with 120 rows of zeros below its 5000 boxes. -/
def padded (x : Fin 5000 → Fin 4 → EReal) (i : Fin 5120) (c : Fin 4) : EReal :=
  if h : i.val < 5000 then x ⟨i.val, h⟩ c else 0

/-! ## The constants -/

/-- The word `0x3F4CCCCD` is a positive number. -/
theorem factor_pos : 0 < Ideal.ofBits .f32 0x3F4CCCCD#32 := by
  simp [Ideal.ofBits, Ideal.ieee, -EReal.coe_mul]

/-- The word `0x3089705F` is not minus infinity. -/
theorem offset_ne_bot : Ideal.ofBits .f32 0x3089705F#32 ≠ ⊥ := by
  simp [Ideal.ofBits, Ideal.ieee, -EReal.coe_mul]

/-- The word `0x3F000000` is one half. -/
theorem half_eq : Ideal.ofBits .f32 0x3F000000#32 = ((1 / 2 : ℝ) : EReal) := by
  simp [Ideal.ofBits, Ideal.ieee, -EReal.coe_mul]
  norm_num

/-- The word `0xFF800000` is minus infinity. -/
theorem minusInf_eq : Ideal.ofBits .f32 0xFF800000#32 = ⊥ := by
  simp [Ideal.ofBits, Ideal.ieee]

/-! ## Sums with and without the box itself -/

/-- Every box lies inside itself. -/
theorem inside_self {n : ℕ} (x : Fin n → Fin 4 → EReal) (i : Fin n) : Inside x x i i :=
  ⟨le_refl _, le_refl _, le_refl _, le_refl _⟩

/-- All boxes inside box `i`: its own area plus that of the others. -/
theorem sum_part {n : ℕ} (x : Fin n → Fin 4 → EReal) (i : Fin n) :
    ∑ j, part x x i j = area x i + ∑ j ∈ Finset.univ.erase i, part x x i j := by
  rw [← Finset.add_sum_erase _ _ (Finset.mem_univ i)]
  congr 1
  exact if_pos (inside_self x i)

/-- The same sum without box `π k`, taken in the order of a permutation `π` with its own entry replaced by zero. -/
theorem sum_others {n : ℕ} (x : Fin n → Fin 4 → EReal) (π : Fin n → Fin n) (hπ : Function.Bijective π) (k : Fin n) :
    (∑ l, if π l = π k then 0 else part x x (π k) (π l)) = ∑ j ∈ Finset.univ.erase (π k), part x x (π k) j := by
  rw [hπ.sum_comp fun j => if j = π k then 0 else part x x (π k) j, ← Finset.add_sum_erase _ _ (Finset.mem_univ (π k)), if_pos rfl, zero_add]
  exact Finset.sum_congr rfl fun j hj => if_neg (Finset.ne_of_mem_erase hj)

/-- A bound taken of an area `a` that is not minus infinity does not care whether `a` was added to the sum and
    subtracted again: for a finite `a` the two cancel, and at plus infinity the bound is plus infinity. -/
theorem add_sub_le_bound (a r : EReal) (ha : a ≠ ⊥) : a + r - a ≤ bound a ↔ r ≤ bound a := by
  induction a with
  | bot => exact absurd rfl ha
  | top =>
    have hb : bound ⊤ = ⊤ := by
      unfold bound
      rw [EReal.top_add_of_ne_bot offset_ne_bot, EReal.mul_top_of_pos factor_pos]
    rw [hb]
    exact ⟨fun _ => le_top, fun _ => le_top⟩
  | coe a => rw [EReal.add_sub_cancel_left]

/-! ## The rows of zeros -/

/-- A row below the boxes has area zero. -/
theorem area_padded_of_le (x : Fin 5000 → Fin 4 → EReal) (j : Fin 5120) (h : ¬ j.val < 5000) : area (padded x) j = 0 := by
  simp only [area, padded, dif_neg h, sub_zero, mul_zero]

/-- A row among the boxes is that box. -/
theorem padded_of_lt (x : Fin 5000 → Fin 4 → EReal) (j : Fin 5120) (h : j.val < 5000) : padded x j = x ⟨j.val, h⟩ := by
  funext c
  simp only [padded, dif_pos h]

/-- The rows of zeros add nothing to what a box contains. -/
theorem sum_padded (x : Fin 5000 → Fin 4 → EReal) (i : Fin 5120) (h : i.val < 5000) :
    ∑ j, part (padded x) (padded x) i j = ∑ j, part x x ⟨i.val, h⟩ j := by
  refine (Fin.sum_univ_add (a := 5000) (b := 120) fun j => part (padded x) (padded x) i j).trans ?_
  rw [Finset.sum_eq_zero (s := (Finset.univ : Finset (Fin 120))), add_zero]
  · refine Finset.sum_congr rfl fun j _ => ?_
    have hj : padded x (Fin.castAdd 120 j) = x j := padded_of_lt x (Fin.castAdd 120 j) j.isLt
    unfold part Inside area
    rw [hj, padded_of_lt x i h]
  · intro j _
    have hj : ¬ (Fin.natAdd 5000 j).val < 5000 := by
      show ¬ 5000 + j.val < 5000
      omega
    unfold part
    rw [area_padded_of_le x _ hj, ite_self]

/-- The kernel's decision depends on the box's own four numbers only. -/
theorem keptBit_congr {n n' p : ℕ} {x : Fin n → Fin 4 → EReal} {x' : Fin n' → Fin 4 → EReal} (y : Fin p → Fin 4 → EReal) {i : Fin n} {i' : Fin n'}
    (h : x i = x' i') : keptBit x y i = keptBit x' y i' := by
  unfold keptBit part Inside area
  rw [h]

/-- **The two ways of deciding agree** for a box whose area is not minus infinity. -/
theorem keptBit_padded (x : Fin 5000 → Fin 4 → EReal) (i : Fin 5120) (h : i.val < 5000) (ha : area x ⟨i.val, h⟩ ≠ ⊥) :
    keptBit (padded x) (padded x) i = keepBit x ⟨i.val, h⟩ := by
  have he : area (padded x) i = area x ⟨i.val, h⟩ := by
    unfold area
    rw [padded_of_lt x i h]
  unfold keptBit keepBit Keep
  rw [sum_padded x i h, he, sum_part]
  exact congrArg BitVec.ofBool (decide_eq_decide.2 (add_sub_le_bound _ _ ha))

/-! ## Bits -/

/-- The four comparisons of two boxes, conjoined as bits, are the bit of the containment. -/
theorem inside_bits {a b c d a' b' c' d' : EReal} {P : Prop} [Decidable P] (h : P ↔ a ≤ a' ∧ b ≤ b' ∧ c' ≤ c ∧ d' ≤ d) :
    IntOp.andi (IntOp.andi (IntOp.andi (Ideal.cmp .oge a' a) (Ideal.cmp .oge b' b)) (Ideal.cmp .ole c' c)) (Ideal.cmp .ole d' d)
      = BitVec.ofBool (decide P) := by
  by_cases ha : a ≤ a' <;> by_cases hb : b ≤ b' <;> by_cases hc : c' ≤ c <;> by_cases hd : d' ≤ d <;>
    simp [Ideal.cmp, IntOp.andi, h, ha, hb, hc, hd]

/-- The comparison that decides, as the bit of any statement that says the same. -/
theorem le_bit {a b : EReal} {P : Prop} [Decidable P] (h : a ≤ b ↔ P) : Ideal.cmp .ole a b = BitVec.ofBool (decide P) := by
  exact congrArg BitVec.ofBool (decide_eq_decide.2 h)

/-! ## The keep bit as a number -/

/-- A bit widened to 32 bits and read as a signed integer is the bit read as an unsigned one. -/
theorem toInt_extend (b : BitVec 1) : ((b.setWidth 32).toInt : ℝ) = (b.toNat : ℝ) := by
  rcases BitVec.eq_zero_or_eq_one b with rfl | rfl <;> simp

/-- A bit as a number is above one half exactly when it is set. -/
theorem half_lt_bit (b : BitVec 1) : BitVec.ofBool (decide (Ideal.ofBits .f32 0x3F000000#32 < ((b.toNat : ℝ) : EReal))) = b := by
  rw [half_eq]
  rcases BitVec.eq_zero_or_eq_one b with rfl | rfl
  · have h : ¬ (((1 / 2 : ℝ) : EReal) < (((0#1).toNat : ℝ) : EReal)) := by
      rw [EReal.coe_lt_coe_iff]
      norm_num
    rw [decide_eq_false h]
    rfl
  · have h : ((1 / 2 : ℝ) : EReal) < (((1#1).toNat : ℝ) : EReal) := by
      rw [EReal.coe_lt_coe_iff]
      norm_num
    rw [decide_eq_true h]
    rfl

end Cert.Filter

end
-- ==== Proof.KerBlock.lean ====
/-
  The kernel body on one block: 512 boxes `x0` against all 5120 columns of the transposed, padded table `x1`. The bodies'
  payloads read at an index: the column block ends holding the keep bits as numbers, the row block the boxes times them.
-/
module

public import proofs.«01_k».proof.Proof.Gen.KernelIdeal.Frame
public import proofs.«01_k».proof.Proof.Model
public import Idealize.ShloMosaic.Lib.Pipeline.ValueKit

@[expose] public section

set_option maxRecDepth 16384

noncomputable section

namespace Cert.Filter

open Cert.KernelIdeal Cert.KernelIdeal.Gen
open Idealize.ShloMosaic

/-- The block's boxes as a table. -/
def rows (x0 : FVec Ideal S512x4 .f32) (i : Fin 512) (c : Fin 4) : EReal := x0 (ix2 i c)

/-- The transposed table's columns as boxes. -/
def cols (x1 : FVec Ideal S4x5120 .f32) (j : Fin 5120) (c : Fin 4) : EReal := x1 (ix2 c j)

/-- A selection by four conjoined bits is a case distinction on the four statements together. -/
theorem select_four {p q r s : Prop} [Decidable p] [Decidable q] [Decidable r] [Decidable s] [Decidable (p ∧ q ∧ r ∧ s)] (v : EReal) :
    Scalar.select (IntOp.andi (IntOp.andi (IntOp.andi (BitVec.ofBool (decide p)) (BitVec.ofBool (decide q))) (BitVec.ofBool (decide r)))
      (BitVec.ofBool (decide s))) v 0 = if p ∧ q ∧ r ∧ s then v else 0 := by
  by_cases hp : p <;> by_cases hq : q <;> by_cases hr : r <;> by_cases hs : s <;> simp [Scalar.select, IntOp.andi, hp, hq, hr, hs]

/-- What the boxes contain, themselves taken off again. -/
theorem pay12_apply (x0 : FVec Ideal S512x4 .f32) (x1 : FVec Ideal S4x5120 .f32) (i : Fin 512) :
    k0_pay12 (F := Ideal) x0 x1 (ix2 i 0) = ∑ j, part (rows x0) (cols x1) i j - area (rows x0) i := by
  unfold k0_pay12
  unfold_payloads
  pointwise []
  refine congrArg (· - _) (Finset.sum_congr rfl fun j _ => ?_)
  exact @select_four _ _ _ _ _ _ _ _ (Classical.propDecidable _) _

/-- The bound. -/
theorem pay13_apply (x0 : FVec Ideal S512x4 .f32) (x1 : FVec Ideal S4x5120 .f32) (i : Fin 512) :
    k0_pay14 (F := Ideal) x0 x1 (ix2 i 0) * k0_pay13 (F := Ideal) x0 x1 (ix2 i 0) = bound (area (rows x0) i) := by
  unfold k0_pay13 k0_pay14
  unfold_payloads
  pointwise []
  rfl

/-- The decision as the number that the body stores. -/
theorem pay1_apply (x0 : FVec Ideal S512x4 .f32) (x1 : FVec Ideal S4x5120 .f32) (i : Fin 512) :
    k0_pay1 (F := Ideal) (k0_pay12 x0 x1) (k0_pay13 x0 x1) (k0_pay14 x0 x1) (ix2 i 0)
      = (((keptBit (rows x0) (cols x1) i).toNat : ℝ) : EReal) := by
  have h := pay12_apply x0 x1 i
  have h' := pay13_apply x0 x1 i
  generalize k0_pay12 (F := Ideal) x0 x1 = a at h ⊢
  generalize k0_pay13 (F := Ideal) x0 x1 = b at h' ⊢
  generalize k0_pay14 (F := Ideal) x0 x1 = d at h' ⊢
  have hb : Ideal.cmp .ole (a (ix2 i 0)) (d (ix2 i 0) * b (ix2 i 0)) = keptBit (rows x0) (cols x1) i := by
    rw [h, h']
    unfold keptBit
    exact congrArg BitVec.ofBool (decide_eq_decide.2 Iff.rfl)
  rw [← hb, ← toInt_extend]
  rfl

/-- The column block after the body: the decisions. -/
theorem out3_apply (x0 : FVec Ideal S512x4 .f32) (x1 : FVec Ideal S4x5120 .f32) (i : Fin 512) (c : Fin 1) :
    out0_3 (F := Ideal) x0 x1 (ix2 i c) = (((keptBit (rows x0) (cols x1) i).toNat : ℝ) : EReal) := by
  rw [Subsingleton.elim c 0, ← pay1_apply x0 x1 i]
  unfold out0_3
  generalize k0_pay1 (F := Ideal) (k0_pay12 x0 x1) (k0_pay13 x0 x1) (k0_pay14 x0 x1) = p
  frame_out

/-- The same at any index, the block being part of the table `P` that the columns spell. -/
theorem out3_at (x0 : FVec Ideal S512x4 .f32) (x1 : FVec Ideal S4x5120 .f32) (y : S512x1.Idx) {P : Fin 5120 → Fin 4 → EReal} {r : Fin 5120}
    (e : rows x0 (y 0) = P r) (e' : cols x1 = P) : out0_3 (F := Ideal) x0 x1 y = (((keptBit P P r).toNat : ℝ) : EReal) := by
  rw [← keptBit_congr P e, ← e']
  idx_vars y
  exact out3_apply x0 x1 _ _

/-- The row block after the body: the boxes times their decisions. -/
theorem out2_apply (x0 : FVec Ideal S512x4 .f32) (x1 : FVec Ideal S4x5120 .f32) (i : Fin 512) (c : Fin 4) :
    out0_2 (F := Ideal) x0 x1 (ix2 i c) = rows x0 i c * (((keptBit (rows x0) (cols x1) i).toNat : ℝ) : EReal) := by
  rw [← pay1_apply x0 x1 i]
  unfold out0_2 k0_pay2
  generalize k0_pay1 (F := Ideal) (k0_pay12 x0 x1) (k0_pay13 x0 x1) (k0_pay14 x0 x1) = p
  frame_out
  unfold_payloads
  pointwise []
  rfl

/-- The same at any index, the block being part of the table `P` that the columns spell. -/
theorem out2_at (x0 : FVec Ideal S512x4 .f32) (x1 : FVec Ideal S4x5120 .f32) (y : S512x4.Idx) {P : Fin 5120 → Fin 4 → EReal} {r : Fin 5120}
    (e : rows x0 (y 0) = P r) (e' : cols x1 = P) :
    out0_2 (F := Ideal) x0 x1 y = P r (y 1) * (((keptBit P P r).toNat : ℝ) : EReal) := by
  rw [← keptBit_congr P e, ← e, ← e']
  idx_vars y
  exact out2_apply x0 x1 _ _

end Cert.Filter

end
-- ==== Proof.KerArrays.lean ====
/-
  The kernel's arrays. The host pads the boxes and transposes the padded table before the region; each of the ten grid points
  writes 512 rows of both outputs, so after the region row `i` holds the decision on padded box `i` and the box times it.
-/
module

public import proofs.«01_k».proof.Proof.KerBlock
public import Idealize.ShloMosaic.Lib.StableHlo.ReadAt

@[expose] public section

set_option maxRecDepth 16384

noncomputable section

namespace Cert.Filter

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ)

/-- The boxes that the kernel is called with, as a table. -/
def boxes (c : Dev nD) (i : Fin 5000) (k : Fin 4) : EReal :=
  (m ((c : Thread nD τ).loc main_arg0) : FVec Ideal S5000x4 .f32) (ix2 i k)

/-- The integer zero, which the padding is converted from, is the number zero. -/
theorem sitofp_zero : (FloatOps.sitofp .f32 0#32 : Ideal .f32) = (0 : EReal) := by
  simp [FloatOps.sitofp]

/-- Before the region the host has padded the boxes with zero rows. -/
theorem entry_rows (c : Dev nD) (i : Fin 5120) (k : Fin 4) :
    (V m c main_v0 : FVec Ideal S5120x4 .f32) (ix2 i k) = padded (boxes m c) i k := by
  simp only [V, V0, List.flatten_cons, List.flatten_nil, List.append_nil, List.cons_append, List.nil_append]
  after_reads_at
  unfold padded boxes
  refine dite_congr rfl (fun _ => rfl) fun _ => ?_
  exact sitofp_zero

/-- Before the region the host has transposed the padded table. -/
theorem entry_cols (c : Dev nD) (k : Fin 4) (j : Fin 5120) :
    (V m c main_v1 : FVec Ideal S4x5120 .f32) (ix2 k j) = padded (boxes m c) j k := by
  rw [← entry_rows m c j k]
  simp only [V, V0, List.flatten_cons, List.flatten_nil, List.append_nil, List.cons_append, List.nil_append]
  after_reads_at

/-- The windows' blocks: 512 rows per point of the boxes and of both outputs, the transposed table whole. -/
theorem idx : ∀ t : Fin cfg0.N, win0_0.index t = ![t.val, 0] ∧ win0_1.index t = ![0, 0] ∧ win0_2.index t = ![t.val, 0]
    ∧ win0_3.index t = ![t.val, 0] :=
  (by decide +kernel : ∀ t : Fin grid0.N, _)

/-- The decisions on the padded table, as the column that the region writes. -/
def keptColumn (c : Dev nD) : FVec Ideal S5120x1 .f32 := fun y =>
  (((keptBit (padded (boxes m c)) (padded (boxes m c)) (y 0)).toNat : ℝ) : EReal)

/-- The padded boxes times their decisions, as the table that the region writes. -/
def keptRows (c : Dev nD) : FVec Ideal S5120x4 .f32 := fun y =>
  padded (boxes m c) (y 0) (y 1) * (((keptBit (padded (boxes m c)) (padded (boxes m c)) (y 0)).toNat : ℝ) : EReal)

/-- A block of the padded boxes. -/
theorem rows_iblk (c : Dev nD) (t : Fin cfg0.N) (i : Fin 512) (r : Fin 5120) (h : r.val = t.val * 512 + i.val) :
    rows (iblk m c 0 t) i = padded (boxes m c) r := by
  funext k
  rw [← entry_rows m c r k]
  unfold rows
  blk_ext [iblk, idx t, h]

/-- The transposed table's block is all of it. -/
theorem cols_iblk (c : Dev nD) (t : Fin cfg0.N) : cols (iblk m c 1 t) = padded (boxes m c) := by
  funext j k
  rw [← entry_cols m c k j]
  unfold cols
  blk_ext [iblk, idx t]

/-- After the region the column holds the decisions. -/
theorem column_final (c : Dev nD) : (dats m 0 c).arrAt 3 (cfgs 0).N = keptColumn m c := by
  refine (dats m 0 c).arrAt_eq_of_covers 3 _ (by decide +kernel) fun t _ y => ?_
  blk_simp
  rw [after0_3]
  generalize hr : (win0_3.blk t).view.emb y = r
  have h : (r 0).val = t.val * 512 + (y 0).val := by
    rw [← hr]
    blk_simp [idx t]
  exact out3_at _ _ y (rows_iblk m c t (y 0) (r 0) h) (cols_iblk m c t)

/-- After the region the table holds the boxes times their decisions. -/
theorem rows_final (c : Dev nD) : (dats m 0 c).arrAt 2 (cfgs 0).N = keptRows m c := by
  refine (dats m 0 c).arrAt_eq_of_covers 2 _ (by decide +kernel) fun t _ y => ?_
  blk_simp
  rw [after0_2]
  generalize hr : (win0_2.blk t).view.emb y = r
  have h : (r 0).val = t.val * 512 + (y 0).val := by
    rw [← hr]
    blk_simp [idx t]
  have h' : r 1 = y 1 := by
    rw [← hr]
    apply Fin.ext
    blk_simp [idx t]
  refine (out2_at _ _ y (rows_iblk m c t (y 0) (r 0) h) (cols_iblk m c t)).trans ?_
  unfold keptRows
  rw [h']

end Cert.Filter

end
-- ==== Proof.KerTail.lean ====
/-
  The kernel's two results. The host cuts the region's arrays back to the 5000 boxes and compares the column with one half.
  Where no area is minus infinity the decisions on the padded table are those on the boxes.
-/
module

public import proofs.«01_k».proof.Proof.KerArrays

@[expose] public section

set_option maxRecDepth 16384

noncomputable section

namespace Cert.Filter

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ)

/-- The region's windows stand on four different arrays. -/
theorem arrays_differ : Function.Injective (Pipeline.arrRef spec0) := by decide

/-- What the region leaves in the table of kept rows. -/
theorem region_rows (c : Dev nD) :
    Pipeline.withArrays (cfgs 0).spec c (V0 m c) (fun w => (dats m 0 c).arrAt w (cfgs 0).N) (Proc.tc.devRef main_v2_0)
      = keptRows m c :=
  (Pipeline.withArrays_arr spec0 arrays_differ c (V0 m c) (fun w => (dats m 0 c).arrAt w (cfgs 0).N) 2).trans (rows_final m c)

/-- What the region leaves in the column of decisions. -/
theorem region_column (c : Dev nD) :
    Pipeline.withArrays (cfgs 0).spec c (V0 m c) (fun w => (dats m 0 c).arrAt w (cfgs 0).N) (Proc.tc.devRef main_v2_1)
      = keptColumn m c :=
  (Pipeline.withArrays_arr spec0 arrays_differ c (V0 m c) (fun w => (dats m 0 c).arrAt w (cfgs 0).N) 3).trans (column_final m c)

/-- The first result: the first 5000 rows of the table. -/
theorem tail_rows (c : Dev nD) (i : Fin 5000) (k : Fin 4) :
    (Pipeline.afterTail₀ cfgs (dats m) 0 (V0 m) [hostOps1] c main_v3 : FVec Ideal S5000x4 .f32) (ix2 i k)
      = keptRows m c (ix2 ⟨i.val, by omega⟩ k) := by
  rw [← region_rows]
  unfold Pipeline.afterTail₀
  simp only [List.flatten_cons, List.flatten_nil, List.append_nil, List.cons_append, List.nil_append]
  after_reads_at

/-- The second result: the first 5000 decisions, read back from numbers to bits. -/
theorem tail_bits (c : Dev nD) (i : Fin 5000) :
    (Pipeline.afterTail₀ cfgs (dats m) 0 (V0 m) [hostOps1] c main_v7 : IVec S5000 1) (ix1 i)
      = keptBit (padded (boxes m c)) (padded (boxes m c)) ⟨i.val, by omega⟩ := by
  rw [← half_lt_bit (keptBit _ _ _)]
  unfold Pipeline.afterTail₀
  simp only [List.flatten_cons, List.flatten_nil, List.append_nil, List.cons_append, List.nil_append]
  after_reads_at
  rw [region_column]
  rfl

/-- The first result where no area is minus infinity: each box times its keep bit. -/
theorem kernel_rows (c : Dev nD) (i : Fin 5000) (k : Fin 4) (ha : area (boxes m c) i ≠ ⊥) :
    (Pipeline.afterTail₀ cfgs (dats m) 0 (V0 m) [hostOps1] c main_v3 : FVec Ideal S5000x4 .f32) (ix2 i k)
      = boxes m c i k * (((keepBit (boxes m c) i).toNat : ℝ) : EReal) := by
  rw [tail_rows, ← keptBit_padded (boxes m c) ⟨i.val, by omega⟩ i.isLt ha, ← congrFun (padded_of_lt (boxes m c) ⟨i.val, by omega⟩ i.isLt) k]
  rfl

/-- The second result where no area is minus infinity: the keep bits. -/
theorem kernel_bits (c : Dev nD) (i : Fin 5000) (ha : area (boxes m c) i ≠ ⊥) :
    (Pipeline.afterTail₀ cfgs (dats m) 0 (V0 m) [hostOps1] c main_v7 : IVec S5000 1) (ix1 i) = keepBit (boxes m c) i := by
  rw [tail_bits, ← keptBit_padded (boxes m c) ⟨i.val, by omega⟩ i.isLt ha]

end Cert.Filter

end
-- ==== Proof.RefOrder.lean ====
/-
  The reference's sorted order. jax's `argsort` sorts the negated areas together with the positions 0 … 4999; what
  comes out of the position operand is a permutation `order` of them. Reading a vector through that permutation is a
  gather whose index words went through jnp's wrap of negative indices, which changes nothing here.
-/
module

public import proofs.«01_k».proof.Proof.Gen.ReferenceIdeal.Read
public import proofs.«01_k».proof.Proof.Model
public import Idealize.ShloMosaic.Lib.SortFacts
public import Idealize.ShloMosaic.Lib.Routing.OpsSet
public import Idealize.ShloMosaic.Lib.Routing.OpsPair

@[expose] public section

noncomputable section

namespace Cert.Filter

open Cert.ReferenceIdeal Cert.ReferenceIdeal.Gen Cert.ReferenceIdeal.Read
open Idealize.ShloMosaic Idealize.ShloMosaic.ValueIdx Idealize.ShloMosaic.Routing

/-- The reference's argument: 5000 boxes of four numbers. -/
abbrev Boxes : Type := (⟨S5000x4, .f32⟩ : BufTy).Contents (Elt Ideal)

/-- The argument as a table. -/
def table (x0 : Boxes) (i : Fin 5000) (c : Fin 4) : EReal := x0 (ix2 i c)

/-! ## The permutation -/

/-- The source position of sorted position `k`. -/
def order (x0 : Boxes) (k : Fin 5000) : Fin 5000 :=
  sortedFrom (fun a b => comparator_f32_i32_d0 (F := Ideal)
      (val_main_v11 x0 (Shape.Idx.along (s := S5000) (ix1 k) 0 a), val_main_call0_v0 (F := Ideal) (Shape.Idx.along (s := S5000) (ix1 k) 0 a))
      (val_main_v11 x0 (Shape.Idx.along (s := S5000) (ix1 k) 0 b), val_main_call0_v0 (F := Ideal) (Shape.Idx.along (s := S5000) (ix1 k) 0 b)) == 1#1) k

/-- In a vector, moving along its one axis forgets where one started. -/
theorem along_vec (k a : Fin 5000) : Shape.Idx.along (s := S5000) (ix1 k) 0 a = ix1 a := by
  funext d
  obtain rfl : d = 0 := Subsingleton.elim (α := Fin 1) _ _
  simp [Shape.Idx.along]
  rfl

theorem order_eq (x0 : Boxes) : order x0 = sortedFrom (fun a b => comparator_f32_i32_d0 (F := Ideal)
      (val_main_v11 x0 (ix1 a), val_main_call0_v0 (F := Ideal) (ix1 a)) (val_main_v11 x0 (ix1 b), val_main_call0_v0 (F := Ideal) (ix1 b)) == 1#1) := by
  funext k
  unfold order
  simp only [along_vec]

theorem order_bijective (x0 : Boxes) : Function.Bijective (order x0) := by
  rw [order_eq]
  exact ⟨sortedFrom_injective _, sortedFrom_surjective _⟩

/-- The sorted positions, as the words that the program carries. -/
theorem v12_apply (x0 : Boxes) (k : Fin 5000) : val_main_v12 (F := Ideal) x0 (ix1 k) = BitVec.ofNat 32 (order x0 k).val := by
  unfold val_main_v12 Host.sort2
  rw [dif_pos (by decide : 0 < S5000.rank)]
  show val_main_call0_v0 (F := Ideal) (Shape.Idx.along (s := S5000) (ix1 k) 0 (order x0 k)) = _
  rw [along_vec]
  rfl

/-! ## The wrap of negative indices -/

/-- A sorted position is below `2 ^ 31`: read signed, it is not negative. -/
theorem v12_toNat_lt (x0 : Boxes) (k : Fin 5000) : (val_main_v12 (F := Ideal) x0 (ix1 k)).toNat < 2 ^ (32 - 1) := by
  have h := (order x0 k).isLt
  rw [v12_apply, BitVec.toNat_ofNat]
  omega

/-- The wrap of a sorted position is that position. -/
theorem wrap_eq (x0 : Boxes) (k : Fin 5000) (a : BitVec 32) :
    Scalar.select (IntOp.cmpi .slt (val_main_v12 (F := Ideal) x0 (ix1 k)) 0#32) a (val_main_v12 (F := Ideal) x0 (ix1 k))
      = BitVec.ofNat 32 (order x0 k).val := by
  rw [wrap_of_lt _ _ (v12_toNat_lt x0 k), v12_apply]

/-- The index column of each gather and of the scatter, at row `k`: the position `order k`. -/
theorem col18 (x0 : Boxes) (k : Fin 5000) : val_main_v18 (F := Ideal) x0 (ix2 k (0 : Fin 1)) = BitVec.ofNat 32 (order x0 k).val := by
  rw [val_main_v18_apply, show idx_main_v18 (ix2 k (0 : Fin 1)) = ix1 k from eq_ix1 _, val_main_v17_apply, val_main_v14_apply,
    val_main_v13_apply, val_main_c_apply]
  exact wrap_eq x0 k _
theorem col25 (x0 : Boxes) (k : Fin 5000) : val_main_v25 (F := Ideal) x0 (ix2 k (0 : Fin 1)) = BitVec.ofNat 32 (order x0 k).val := by
  rw [val_main_v25_apply, show idx_main_v25 (ix2 k (0 : Fin 1)) = ix1 k from eq_ix1 _, val_main_v24_apply, val_main_v21_apply,
    val_main_v20_apply, val_main_c_1_apply]
  exact wrap_eq x0 k _
theorem col32 (x0 : Boxes) (k : Fin 5000) : val_main_v32 (F := Ideal) x0 (ix2 k (0 : Fin 1)) = BitVec.ofNat 32 (order x0 k).val := by
  rw [val_main_v32_apply, show idx_main_v32 (ix2 k (0 : Fin 1)) = ix1 k from eq_ix1 _, val_main_v31_apply, val_main_v28_apply,
    val_main_v27_apply, val_main_c_3_apply]
  exact wrap_eq x0 k _
theorem col39 (x0 : Boxes) (k : Fin 5000) : val_main_v39 (F := Ideal) x0 (ix2 k (0 : Fin 1)) = BitVec.ofNat 32 (order x0 k).val := by
  rw [val_main_v39_apply, show idx_main_v39 (ix2 k (0 : Fin 1)) = ix1 k from eq_ix1 _, val_main_v38_apply, val_main_v35_apply,
    val_main_v34_apply, val_main_c_5_apply]
  exact wrap_eq x0 k _
theorem col46 (x0 : Boxes) (k : Fin 5000) : val_main_v46 (F := Ideal) x0 (ix2 k (0 : Fin 1)) = BitVec.ofNat 32 (order x0 k).val := by
  rw [val_main_v46_apply, show idx_main_v46 (ix2 k (0 : Fin 1)) = ix1 k from eq_ix1 _, val_main_v45_apply, val_main_v42_apply,
    val_main_v41_apply, val_main_c_7_apply]
  exact wrap_eq x0 k _
theorem col94 (x0 : Boxes) (k : Fin 5000) : val_main_v94 (F := Ideal) x0 (ix2 k (0 : Fin 1)) = BitVec.ofNat 32 (order x0 k).val := by
  rw [val_main_v94_apply, show idx_main_v94 (ix2 k (0 : Fin 1)) = ix1 k from eq_ix1 _, val_main_v93_apply, val_main_v90_apply,
    val_main_v89_apply, val_main_c_13_apply]
  exact wrap_eq x0 k _

/-! ## The columns, the areas, and their sorted readings -/

theorem v1_apply (x0 : Boxes) (i : Fin 5000) : val_main_v1 (F := Ideal) x0 (ix1 i) = table x0 i 0 := by
  rw [val_main_v1_apply, val_main_v0_apply]
  refine congrArg x0 (funext fun a => Fin.ext ?_)
  match a with
  | ⟨0, _⟩ => exact Nat.div_one _
  | ⟨1, _⟩ => rfl
theorem v3_apply (x0 : Boxes) (i : Fin 5000) : val_main_v3 (F := Ideal) x0 (ix1 i) = table x0 i 1 := by
  rw [val_main_v3_apply, val_main_v2_apply]
  refine congrArg x0 (funext fun a => Fin.ext ?_)
  match a with
  | ⟨0, _⟩ => exact Nat.div_one _
  | ⟨1, _⟩ => rfl
theorem v5_apply (x0 : Boxes) (i : Fin 5000) : val_main_v5 (F := Ideal) x0 (ix1 i) = table x0 i 2 := by
  rw [val_main_v5_apply, val_main_v4_apply]
  refine congrArg x0 (funext fun a => Fin.ext ?_)
  match a with
  | ⟨0, _⟩ => exact Nat.div_one _
  | ⟨1, _⟩ => rfl
theorem v7_apply (x0 : Boxes) (i : Fin 5000) : val_main_v7 (F := Ideal) x0 (ix1 i) = table x0 i 3 := by
  rw [val_main_v7_apply, val_main_v6_apply]
  refine congrArg x0 (funext fun a => Fin.ext ?_)
  match a with
  | ⟨0, _⟩ => exact Nat.div_one _
  | ⟨1, _⟩ => rfl

theorem v10_apply (x0 : Boxes) (i : Fin 5000) : val_main_v10 (F := Ideal) x0 (ix1 i) = area (table x0) i := by
  rw [val_main_v10_apply, val_main_v8_apply, val_main_v9_apply, v1_apply, v3_apply, v5_apply, v7_apply]
  rfl

/-- A vector gathered by a column that holds the positions `order k`. -/
theorem gather_apply (x0 : Boxes) (v : S5000.Idx → EReal) (col : IVec S5000x1 32)
    (hcol : ∀ k : Fin 5000, col (ix2 k (0 : Fin 1)) = BitVec.ofNat 32 (order x0 k).val) (k : Fin 5000) :
    Host.gather gather_S5000_S5000x1_S5000_n_0_n_n_0_1_1 v col (ix1 k) = v (ix1 (order x0 k)) :=
  gather_take1 gather_S5000_S5000x1_S5000_n_0_n_n_0_1_1 rfl rfl rfl rfl v col k (order x0 k) (hcol k) (by omega)

theorem v19_apply (x0 : Boxes) (k : Fin 5000) : val_main_v19 (F := Ideal) x0 (ix1 k) = area (table x0) (order x0 k) :=
  (gather_apply x0 _ _ (col18 x0) k).trans (v10_apply x0 _)
theorem v26_apply (x0 : Boxes) (k : Fin 5000) : val_main_v26 (F := Ideal) x0 (ix1 k) = table x0 (order x0 k) 0 :=
  (gather_apply x0 _ _ (col25 x0) k).trans (v1_apply x0 _)
theorem v33_apply (x0 : Boxes) (k : Fin 5000) : val_main_v33 (F := Ideal) x0 (ix1 k) = table x0 (order x0 k) 1 :=
  (gather_apply x0 _ _ (col32 x0) k).trans (v3_apply x0 _)
theorem v40_apply (x0 : Boxes) (k : Fin 5000) : val_main_v40 (F := Ideal) x0 (ix1 k) = table x0 (order x0 k) 2 :=
  (gather_apply x0 _ _ (col39 x0) k).trans (v5_apply x0 _)
theorem v47_apply (x0 : Boxes) (k : Fin 5000) : val_main_v47 (F := Ideal) x0 (ix1 k) = table x0 (order x0 k) 3 :=
  (gather_apply x0 _ _ (col46 x0) k).trans (v7_apply x0 _)

end Cert.Filter

end
-- ==== Proof.RefValue.lean ====
/-
  The reference's two results. In sorted order, entry `(k, l)` of the pairwise table says whether box `order k` contains
  box `order l`, its diagonal cleared; the row sums of the contained areas are compared with the bounds, and the bits
  are scattered back through the same permutation. So result bit `i` is `keepBit` of the unsorted table, and the boxes
  come back multiplied by it.
-/
module

public import proofs.«01_k».proof.Proof.RefOrder

@[expose] public section

noncomputable section

namespace Cert.Filter

open Cert.ReferenceIdeal Cert.ReferenceIdeal.Gen Cert.ReferenceIdeal.Read
open Idealize.ShloMosaic Idealize.ShloMosaic.ValueIdx Idealize.ShloMosaic.Routing

/-! ## The pairwise table -/

/-- A sorted vector stretched along the rows, at `(k, l)`: its entry `l`. -/
theorem row50 (x0 : Boxes) (k l : Fin 5000) : val_main_v50 (F := Ideal) x0 (ix2 k l) = table x0 (order x0 l) 0 := by
  rw [val_main_v50_apply, val_main_v48_apply, show idx_main_v48 (idx_main_v50 (ix2 k l)) = ix1 l from eq_ix1 _, v26_apply]
theorem row55 (x0 : Boxes) (k l : Fin 5000) : val_main_v55 (F := Ideal) x0 (ix2 k l) = table x0 (order x0 l) 1 := by
  rw [val_main_v55_apply, val_main_v53_apply, show idx_main_v53 (idx_main_v55 (ix2 k l)) = ix1 l from eq_ix1 _, v33_apply]
theorem row61 (x0 : Boxes) (k l : Fin 5000) : val_main_v61 (F := Ideal) x0 (ix2 k l) = table x0 (order x0 l) 2 := by
  rw [val_main_v61_apply, val_main_v59_apply, show idx_main_v59 (idx_main_v61 (ix2 k l)) = ix1 l from eq_ix1 _, v40_apply]
theorem row67 (x0 : Boxes) (k l : Fin 5000) : val_main_v67 (F := Ideal) x0 (ix2 k l) = table x0 (order x0 l) 3 := by
  rw [val_main_v67_apply, val_main_v65_apply, show idx_main_v65 (idx_main_v67 (ix2 k l)) = ix1 l from eq_ix1 _, v47_apply]
theorem row80 (x0 : Boxes) (k l : Fin 5000) : val_main_v80 (F := Ideal) x0 (ix2 k l) = area (table x0) (order x0 l) := by
  rw [val_main_v80_apply, val_main_v79_apply, show idx_main_v79 (idx_main_v80 (ix2 k l)) = ix1 l from eq_ix1 _, v19_apply]

/-- A sorted vector stretched along the columns, at `(k, l)`: its entry `k`. -/
theorem column51 (x0 : Boxes) (k l : Fin 5000) : val_main_v51 (F := Ideal) x0 (ix2 k l) = table x0 (order x0 k) 0 := by
  rw [val_main_v51_apply, val_main_v49_apply, show idx_main_v49 (idx_main_v51 (ix2 k l)) = ix1 k from eq_ix1 _, v26_apply]
theorem column56 (x0 : Boxes) (k l : Fin 5000) : val_main_v56 (F := Ideal) x0 (ix2 k l) = table x0 (order x0 k) 1 := by
  rw [val_main_v56_apply, val_main_v54_apply, show idx_main_v54 (idx_main_v56 (ix2 k l)) = ix1 k from eq_ix1 _, v33_apply]
theorem column62 (x0 : Boxes) (k l : Fin 5000) : val_main_v62 (F := Ideal) x0 (ix2 k l) = table x0 (order x0 k) 2 := by
  rw [val_main_v62_apply, val_main_v60_apply, show idx_main_v60 (idx_main_v62 (ix2 k l)) = ix1 k from eq_ix1 _, v40_apply]
theorem column68 (x0 : Boxes) (k l : Fin 5000) : val_main_v68 (F := Ideal) x0 (ix2 k l) = table x0 (order x0 k) 3 := by
  rw [val_main_v68_apply, val_main_v66_apply, show idx_main_v66 (idx_main_v68 (ix2 k l)) = ix1 k from eq_ix1 _, v47_apply]

open Classical in
/-- Entry `(k, l)` of the containment table. -/
theorem v70_apply (x0 : Boxes) (k l : Fin 5000) : val_main_v70 (F := Ideal) x0 (ix2 k l)
    = BitVec.ofBool (decide (Inside (table x0) (table x0) (order x0 k) (order x0 l))) := by
  rw [val_main_v70_apply, val_main_v69_apply, val_main_v64_apply, val_main_v63_apply, val_main_v58_apply, val_main_v57_apply, val_main_v52_apply,
    row50, row55, row61, row67, column51, column56, column62, column68]
  exact inside_bits Iff.rfl

/-- Off the diagonal the mask is set, on it clear. -/
theorem v76_apply (k l : Fin 5000) : val_main_v76 (F := Ideal) (ix2 k l) = BitVec.ofBool (decide (k ≠ l)) := by
  rw [val_main_v76_apply, val_main_v75_apply, val_main_v74_apply, val_main_v73_apply, val_main_c_9_apply, val_main_v71_apply, val_main_v72_apply]
  show ~~~ BitVec.ofBool (BitVec.ofNat 32 k.val + 0#32 == BitVec.ofNat 32 l.val) = _
  have hk := k.isLt
  have hl := l.isLt
  have h : (BitVec.ofNat 32 k.val + 0#32 == BitVec.ofNat 32 l.val) = decide (k = l) := by
    rw [BitVec.add_zero]
    by_cases e : k = l
    · subst e
      simp
    · rw [decide_eq_false e, beq_eq_false_iff_ne]
      intro h
      have h' := congrArg BitVec.toNat h
      rw [BitVec.toNat_ofNat, BitVec.toNat_ofNat, Nat.mod_eq_of_lt (by omega), Nat.mod_eq_of_lt (by omega)] at h'
      exact e (Fin.ext h')
  rw [h]
  by_cases e : k = l <;> simp [e]

/-- Entry `(k, l)` of the table of contained areas, the box's own left out. -/
theorem v81_apply (x0 : Boxes) (k l : Fin 5000) : val_main_v81 (F := Ideal) x0 (ix2 k l)
    = if order x0 l = order x0 k then 0 else part (table x0) (table x0) (order x0 k) (order x0 l) := by
  classical
  rw [val_main_v81_apply, val_main_v78_apply, val_main_v77_apply, v70_apply, v76_apply, row80]
  unfold part
  show (((IntOp.andi (BitVec.ofBool _) (BitVec.ofBool _)).toNat : ℝ) : EReal) * _ = _
  by_cases e : k = l
  · subst e
    simp [IntOp.andi]
  · have e' : ¬ order x0 l = order x0 k := fun h => e ((order_bijective x0).1 h).symm
    rw [if_neg e']
    by_cases hi : Inside (table x0) (table x0) (order x0 k) (order x0 l) <;> simp [IntOp.andi, e, hi]

/-! ## The row sums and the decision -/

/-- The sum of row `k`: the areas of the other boxes inside box `order k`. -/
theorem v82_apply (x0 : Boxes) (k : Fin 5000) : val_main_v82 (F := Ideal) x0 (ix1 k)
    = ∑ j ∈ Finset.univ.erase (order x0 k), part (table x0) (table x0) (order x0 k) j := by
  rw [val_main_v82_apply, val_main_cst_apply, Ideal.ofBits_def, Ideal.ofBits_zero_f32, zero_add]
  have hl : ∀ l : Fin 5000, val_main_v81 (F := Ideal) x0 (idx_main_v82 (ix1 k) l)
      = if order x0 l = order x0 k then 0 else part (table x0) (table x0) (order x0 k) (order x0 l) := fun l => by
    rw [show idx_main_v82 (ix1 k) l = ix2 k l from eq_ix2 _, v81_apply]
  rw [Finset.sum_congr rfl fun l _ => hl l]
  exact sum_others (table x0) (order x0) (order_bijective x0) k

/-- Sorted entry `k` of the keep mask is the keep bit of box `order k`. -/
theorem v87_apply (x0 : Boxes) (k : Fin 5000) : val_main_v87 (F := Ideal) x0 (ix1 k) = keepBit (table x0) (order x0 k) := by
  rw [val_main_v87_apply, v82_apply, val_main_v86_apply, val_main_v85_apply, val_main_cst_11_apply, val_main_v84_apply, v19_apply,
    val_main_v83_apply, val_main_cst_10_apply]
  unfold keepBit
  exact @le_bit _ _ _ (Classical.propDecidable _) Iff.rfl

/-! ## The results -/

/-- The second result: scattered back, entry `i` is the keep bit of box `i`. -/
theorem v95_apply (x0 : Boxes) (i : Fin 5000) : val_main_v95 (F := Ideal) x0 (ix1 i) = keepBit (table x0) i := by
  have word : ∀ k : Fin 5000, (val_main_v94 (F := Ideal) x0 (ix2 k (0 : Fin 1))).toInt = ((order x0 k).val : Int) := fun k => by
    rw [col94, StableHlo.Predicate.toInt_ofNat_small _ (by have := (order x0 k).isLt; omega)]
  obtain ⟨k, hk⟩ := (order_bijective x0).2 i
  refine (scatter_set_signed scatter_S5000_S5000x1_S5000_n_0_0_1 rfl rfl rfl _ _ _ i (keepBit (table x0) i) fun k' hk' => ?_).1 ⟨k, ?_⟩
  · rw [v87_apply]
    rw [word] at hk'
    exact congrArg _ (Fin.ext (by omega))
  · rw [word, hk]

/-- The first result: every number of box `i` times its keep bit. -/
theorem v99_apply (x0 : Boxes) (i : Fin 5000) (c : Fin 4) :
    val_main_v99 (F := Ideal) x0 (ix2 i c) = table x0 i c * (((keepBit (table x0) i).toNat : ℝ) : EReal) := by
  rw [val_main_v99_apply, val_main_v98_apply, val_main_v97_apply, val_main_v96_apply,
    show idx_main_v96 (idx_main_v98 (ix2 i c)) = ix1 i from eq_ix1 _, v95_apply]
  rfl

end Cert.Filter

end
-- ==== Proof.Equal.lean ====
/-
  The two programs compared. Both work on one table of boxes whose areas are above minus infinity; each of the two results
  of the kernel is, element by element, the reference's.
-/
module

public import proofs.«01_k».proof.Proof.KerTail
public import proofs.«01_k».proof.Proof.RefValue
public import proofs.«01_k».proof.Proof.Gen.Pre_area_above_minus_inf
public import Idealize.ShloMosaic.Lib.Pointwise.IndexBridge

@[expose] public section

set_option maxRecDepth 16384

noncomputable section

namespace Cert.Filter

open Cert.KernelIdeal Cert.KernelIdeal.Gen
open Idealize.ShloMosaic Idealize.ShloMosaic.TcCoe Idealize.SL.Sem

/-- What the precondition says: no box has area minus infinity. -/
theorem area_ne_bot (x : FVec Ideal S5000x4 .f32)
    (h : Cert.Pre_area_above_minus_inf.fn (F := Ideal) x = fun _ => 1#1) (i : Fin 5000) :
    area (fun j k => x (ix2 j k)) i ≠ ⊥ := by
  have e := congrFun h (ix2 i 0)
  unfold Cert.Pre_area_above_minus_inf.fn at e
  pointwise [] at e
  intro hb
  unfold area at hb
  rw [hb, minusInf_eq] at e
  simp at e

variable (m : (ℓ : Loc nD τ sig) → Buf (Elt Ideal) ℓ)

/-- The reference's table is the kernel's. -/
theorem table_eq (c : Dev nD) (x : FVec Ideal S5000x4 .f32) (h : x = m ((c : Thread nD τ).loc main_arg0)) : table x = boxes m c := by
  subst h
  funext i k
  unfold table boxes
  rw [ix2_eq_valueIdx]

/-- The kept boxes. -/
theorem rows_equal (c : Dev nD) (x : FVec Ideal S5000x4 .f32) (h : x = m ((c : Thread nD τ).loc main_arg0))
    (ha : ∀ i, area (boxes m c) i ≠ ⊥) :
    Cert.ReferenceIdeal.Read.val_main_v99 (F := Ideal) x = Pipeline.afterTail₀ cfgs (dats m) 0 (V0 m) [hostOps1] c main_v3 := by
  funext y
  idx_vars y
  refine Eq.trans ?_ (kernel_rows m c _ _ (ha _)).symm
  rw [ix2_eq_valueIdx, v99_apply, table_eq m c x h]

/-- The keep bits. -/
theorem bits_equal (c : Dev nD) (x : FVec Ideal S5000x4 .f32) (h : x = m ((c : Thread nD τ).loc main_arg0))
    (ha : ∀ i, area (boxes m c) i ≠ ⊥) :
    Cert.ReferenceIdeal.Read.val_main_v95 (F := Ideal) x = Pipeline.afterTail₀ cfgs (dats m) 0 (V0 m) [hostOps1] c main_v7 := by
  funext y
  idx_vars y
  refine Eq.trans ?_ (kernel_bits m c _ (ha _)).symm
  rw [ix1_eq_valueIdx, v95_apply, table_eq m c x h]

end Cert.Filter

end
-- ==== Proof.lean ====
/-
  The proof of `Cert.Claim`. The frames of the kernel, as printed and at the ideal instance, are the generated ones; the
  reference's is its generated run. The equality of the results is `Proof/Equal.lean`, element by element.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_area_above_minus_inf
public import proofs.«01_k».proof.Proof.Equal
public import Idealize.ShloMosaic.Adequacy
public import Idealize.ShloMosaic.Init
public import Idealize.ShloMosaic.Lib.Quiescent

@[expose] public section

noncomputable section

namespace Cert.Proof

open Idealize.ShloMosaic Idealize.SL.Sem

/-- The reference leaves its argument alone, and it has no semaphores. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0))
        ∧ r.2.sem = fun _ => 0) :=
  θ_run_mono (Cert.ReferenceIdeal.Value.run m g) fun r h => ⟨fun c => (h c).2.2, sem_eq_zero_of_no_sems (by decide) r.2⟩

/-- Both results of the kernel are the reference's. -/
theorem algebraic : Cert.algebraic_KernelIdeal_ReferenceIdeal_pre_area_above_minus_inf
    (hKernelIdeal := Cert.KernelIdeal.Gen.facts) (hReferenceIdeal := Cert.ReferenceIdeal.Gen.facts)
    (hPre_area_above_minus_inf := Cert.Pre_area_above_minus_inf.Gen.facts) := by
  intro m g m' g' hpre hargs
  have ha (c : Dev Cert.KernelIdeal.nD) (i : Fin 5000) : Cert.Filter.area (Cert.Filter.boxes m c) i ≠ ⊥ :=
    Cert.Filter.area_ne_bot _ (hpre c) i
  refine ⟨fun c => Pipeline.afterTail₀ Cert.KernelIdeal.cfgs (Cert.KernelIdeal.Gen.dats m) 0 (Cert.KernelIdeal.Gen.V0 m)
      [Cert.KernelIdeal.Gen.hostOps1] c Cert.KernelIdeal.main_v3,
    fun c => Pipeline.afterTail₀ Cert.KernelIdeal.cfgs (Cert.KernelIdeal.Gen.dats m) 0 (Cert.KernelIdeal.Gen.V0 m)
      [Cert.KernelIdeal.Gen.hostOps1] c Cert.KernelIdeal.main_v7, ?_, ?_⟩
  · refine θ_run_mono (Cert.KernelIdeal.Gen.run_main m g) fun r h c => ⟨?_, ?_, ?_⟩
    · exact (h c).2 _ (Pipeline.mem_restRefs_of _ (by decide) (by decide))
    · exact (h c).2 _ (Pipeline.mem_restRefs_of _ (by decide) (by decide))
    · exact ((h c).2 _ (Pipeline.mem_restRefs_of _ (by decide) (by decide))).trans
        (Cert.KernelIdeal.Gen.W_main_arg0 m (Cert.KernelIdeal.Gen.dats m) c)
  · refine θ_run_mono (Cert.ReferenceIdeal.Value.run m' g') fun r h c => ⟨?_, ?_, (h c).2.2⟩
    · exact (h c).1.trans ((Cert.ReferenceIdeal.Read.val_main_v99_eq m' c).trans (Cert.Filter.rows_equal m c _ (hargs c) (ha c)))
    · exact (h c).2.1.trans ((Cert.ReferenceIdeal.Read.val_main_v95_eq m' c).trans (Cert.Filter.bits_equal m c _ (hargs c) (ha c)))

theorem claim : Cert.Claim :=
  ⟨Cert.Kernel.Gen.facts, Cert.KernelIdeal.Gen.facts, Cert.ReferenceIdeal.Gen.facts, Cert.Pre_area_above_minus_inf.Gen.facts,
    fun m g _ => Cert.Kernel.Gen.frame m g, fun m g _ => Cert.KernelIdeal.Gen.frame m g,
    fun m g _ => Cert.KernelIdeal.Gen.frame m g, fun m g _ => frame_reference m g, fun m g _ => frame_reference m g,
    trivial, algebraic⟩

end Cert.Proof

end
